-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x11008 : Shape := ⟨3, ![4, 384, 11008]⟩
abbrev S11008 : Shape := ⟨1, ![11008]⟩
abbrev S11008x9472 : Shape := ⟨2, ![11008, 9472]⟩
abbrev S9472 : Shape := ⟨1, ![9472]⟩
abbrev S1536x11008 : Shape := ⟨2, ![1536, 11008]⟩
abbrev S1x11008 : Shape := ⟨2, ![1, 11008]⟩
abbrev S1536x1 : Shape := ⟨2, ![1536, 1]⟩
abbrev S64x11008 : Shape := ⟨2, ![64, 11008]⟩
abbrev S64x1 : Shape := ⟨2, ![64, 1]⟩
abbrev S64 : Shape := ⟨1, ![64]⟩
abbrev S1x9472 : Shape := ⟨2, ![1, 9472]⟩
abbrev S1536x9472 : Shape := ⟨2, ![1536, 9472]⟩
abbrev S11008x256 : Shape := ⟨2, ![11008, 256]⟩
abbrev S1x256 : Shape := ⟨2, ![1, 256]⟩
abbrev S1536x256 : Shape := ⟨2, ![1536, 256]⟩
abbrev S1536x1024 : Shape := ⟨2, ![1536, 1024]⟩
abbrev S1024x256 : Shape := ⟨2, ![1024, 256]⟩
abbrev S1536x768 : Shape := ⟨2, ![1536, 768]⟩
abbrev S768x256 : Shape := ⟨2, ![768, 256]⟩
abbrev S4x384x9472 : Shape := ⟨3, ![4, 384, 9472]⟩
abbrev S4x384x1 : Shape := ⟨3, ![4, 384, 1]⟩

abbrev nBuf : Space → Nat
  | .hbm => 13
  | .vmem => 16
  | .smem => 0
  | _ => 0

abbrev bufTy : (tb : Table) → Fin (tcTables nBuf tb) → BufTy
  | .hbm, ⟨0, _⟩ => ⟨S4x384x11008, .bf16⟩
  | .hbm, ⟨1, _⟩ => ⟨S11008, .f32⟩
  | .hbm, ⟨2, _⟩ => ⟨S11008x9472, .i8⟩
  | .hbm, ⟨3, _⟩ => ⟨S9472, .f32⟩
  | .hbm, ⟨4, _⟩ => ⟨S1536x11008, .bf16⟩
  | .hbm, ⟨5, _⟩ => ⟨S1x11008, .f32⟩
  | .hbm, ⟨6, _⟩ => ⟨S1536x11008, .i8⟩
  | .hbm, ⟨7, _⟩ => ⟨S1536x1, .f32⟩
  | .hbm, ⟨8, _⟩ => ⟨S1x9472, .f32⟩
  | .hbm, ⟨9, _⟩ => ⟨S1536x9472, .bf16⟩
  | .hbm, ⟨10, _⟩ => ⟨S4x384x9472, .bf16⟩
  | .hbm, ⟨11, _⟩ => ⟨S4x384x11008, .i8⟩
  | .hbm, ⟨12, _⟩ => ⟨S4x384x1, .f32⟩
  | .local _ .vmem, ⟨0, _⟩ => ⟨S64x11008, .bf16⟩
  | .local _ .vmem, ⟨1, _⟩ => ⟨S64x11008, .bf16⟩
  | .local _ .vmem, ⟨2, _⟩ => ⟨S1x11008, .f32⟩
  | .local _ .vmem, ⟨3, _⟩ => ⟨S64x11008, .i8⟩
  | .local _ .vmem, ⟨4, _⟩ => ⟨S64x11008, .i8⟩
  | .local _ .vmem, ⟨5, _⟩ => ⟨S64x1, .f32⟩
  | .local _ .vmem, ⟨6, _⟩ => ⟨S64x1, .f32⟩
  | .local _ .vmem, ⟨7, _⟩ => ⟨S1536x11008, .i8⟩
  | .local _ .vmem, ⟨8, _⟩ => ⟨S11008x256, .i8⟩
  | .local _ .vmem, ⟨9, _⟩ => ⟨S11008x256, .i8⟩
  | .local _ .vmem, ⟨10, _⟩ => ⟨S1536x1, .f32⟩
  | .local _ .vmem, ⟨11, _⟩ => ⟨S1x256, .f32⟩
  | .local _ .vmem, ⟨12, _⟩ => ⟨S1x256, .f32⟩
  | .local _ .vmem, ⟨13, _⟩ => ⟨S1536x256, .bf16⟩
  | .local _ .vmem, ⟨14, _⟩ => ⟨S1536x256, .bf16⟩
  | .local _ .vmem, ⟨15, _⟩ => ⟨S1536x256, .i32⟩
  | _, _ => ⟨S4x384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x11008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x11008 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![37], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1536x11008 .i8 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S11008x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1536x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1536x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4x384x11008 : Shape := ⟨3, ![4, 384, 11008]⟩
abbrev S11008 : Shape := ⟨1, ![11008]⟩
abbrev S11008x9472 : Shape := ⟨2, ![11008, 9472]⟩
abbrev S9472 : Shape := ⟨1, ![9472]⟩
abbrev S1536x11008 : Shape := ⟨2, ![1536, 11008]⟩
abbrev S1x11008 : Shape := ⟨2, ![1, 11008]⟩
abbrev S1536x1 : Shape := ⟨2, ![1536, 1]⟩
abbrev S1536 : Shape := ⟨1, ![1536]⟩
abbrev S1536x11008x1 : Shape := ⟨3, ![1536, 11008, 1]⟩
abbrev S1x11008x9472 : Shape := ⟨3, ![1, 11008, 9472]⟩
abbrev S1536x11008x9472 : Shape := ⟨3, ![1536, 11008, 9472]⟩
abbrev S_ : Shape := ⟨0, ![]⟩
abbrev S1536x9472 : Shape := ⟨2, ![1536, 9472]⟩
abbrev S1x9472 : Shape := ⟨2, ![1, 9472]⟩
abbrev S4x384x9472 : Shape := ⟨3, ![4, 384, 9472]⟩
abbrev S4x384x1 : Shape := ⟨3, ![4, 384, 1]⟩

abbrev nBuf : Space → Nat
  | .hbm => 27
  | .vmem => 4
  | .smem => 0
  | _ => 0

abbrev bufTy : (tb : Table) → Fin (tcTables nBuf tb) → BufTy
  | .hbm, ⟨0, _⟩ => ⟨S4x384x11008, .bf16⟩
  | .hbm, ⟨1, _⟩ => ⟨S11008, .f32⟩
  | .hbm, ⟨2, _⟩ => ⟨S11008x9472, .i8⟩
  | .hbm, ⟨3, _⟩ => ⟨S9472, .f32⟩
  | .hbm, ⟨4, _⟩ => ⟨S1536x11008, .bf16⟩
  | .hbm, ⟨5, _⟩ => ⟨S1x11008, .f32⟩
  | .hbm, ⟨6, _⟩ => ⟨S1536x11008, .i8⟩
  | .hbm, ⟨7, _⟩ => ⟨S1536x1, .f32⟩
  | .hbm, ⟨8, _⟩ => ⟨S1536x11008, .i32⟩
  | .hbm, ⟨9, _⟩ => ⟨S1536x11008x1, .i32⟩
  | .hbm, ⟨10, _⟩ => ⟨S11008x9472, .i32⟩
  | .hbm, ⟨11, _⟩ => ⟨S1x11008x9472, .i32⟩
  | .hbm, ⟨12, _⟩ => ⟨S1536x11008x9472, .i32⟩
  | .hbm, ⟨13, _⟩ => ⟨S1536x11008x9472, .i32⟩
  | .hbm, ⟨14, _⟩ => ⟨S1536x11008x9472, .i32⟩
  | .hbm, ⟨15, _⟩ => ⟨S_, .i32⟩
  | .hbm, ⟨16, _⟩ => ⟨S1536x9472, .i32⟩
  | .hbm, ⟨17, _⟩ => ⟨S1536x9472, .f32⟩
  | .hbm, ⟨18, _⟩ => ⟨S1536x9472, .f32⟩
  | .hbm, ⟨19, _⟩ => ⟨S1536x9472, .f32⟩
  | .hbm, ⟨20, _⟩ => ⟨S1x9472, .f32⟩
  | .hbm, ⟨21, _⟩ => ⟨S1536x9472, .f32⟩
  | .hbm, ⟨22, _⟩ => ⟨S1536x9472, .f32⟩
  | .hbm, ⟨23, _⟩ => ⟨S1536x9472, .bf16⟩
  | .hbm, ⟨24, _⟩ => ⟨S4x384x9472, .bf16⟩
  | .hbm, ⟨25, _⟩ => ⟨S4x384x11008, .i8⟩
  | .hbm, ⟨26, _⟩ => ⟨S4x384x1, .f32⟩
  | .local _ .vmem, ⟨0, _⟩ => ⟨S1536x11008, .bf16⟩
  | .local _ .vmem, ⟨1, _⟩ => ⟨S1x11008, .f32⟩
  | .local _ .vmem, ⟨2, _⟩ => ⟨S1536x11008, .i8⟩
  | .local _ .vmem, ⟨3, _⟩ => ⟨S1536x1, .f32⟩
  | _, _ => ⟨S4x384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1536x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x11008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x11008 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/-
  The kernel program's run with its results: every execution ends with each result array a reshape of what the two calls
  leave in their output arrays, and with the arguments as launched; and what the two calls are entered with.
-/
module

public import proofs.«01_k».proof.Proof.Gen.KernelIdeal.Frame

@[expose] public section

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## What the calls are entered with -/

/-- The first call reads the activations reshaped to 1536 rows. -/
theorem V1_v0 (c : Dev nD) : V1 m ρ c main_v0
    = shapeCast S1536x11008 (m ((c : Thread nD τ).loc main_arg0)) shapeCasts_S4x384x11008_S1536x11008 := rfl

/-- The first call reads the smoothing factors as one row. -/
theorem V1_v1 (c : Dev nD) : V1 m ρ c main_v1
    = shapeCast S1x11008 (m ((c : Thread nD τ).loc main_arg1)) shapeCasts_S11008_S1x11008 := rfl

/-- The codes the first call leaves are what the second reads. -/
theorem V3_v2_0 (c : Dev nD) : V3 m ρ c main_v2_0 = (dat0 (V1 m ρ) c).arrAt 2 cfg0.N :=
  (W3_of m ρ c main_v2_0 (by decide)).trans (W2_arr m ρ c 2)

/-- The scales the first call leaves are what the second reads. -/
theorem V3_v2_1 (c : Dev nD) : V3 m ρ c main_v2_1 = (dat0 (V1 m ρ) c).arrAt 3 cfg0.N :=
  (W3_of m ρ c main_v2_1 (by decide)).trans (W2_arr m ρ c 3)

/-- The second call reads the weights' codes as launched. -/
theorem V3_arg2 (c : Dev nD) : V3 m ρ c main_arg2 = m ((c : Thread nD τ).loc main_arg2) :=
  W3_args m ρ c main_arg2 (by decide)

/-- The second call reads the columns' scales as one row. -/
theorem V3_v3 (c : Dev nD) : V3 m ρ c main_v3
    = shapeCast S1x9472 (m ((c : Thread nD τ).loc main_arg3)) shapeCasts_S9472_S1x9472 := by
  rw [← W2_args m ρ c main_arg3 (by decide)]
  rfl

/-! ## What the results end as -/

/-- The first result: what the second call leaves, reshaped. -/
theorem W5_v5 (c : Dev nD) : W5 m ρ c (Proc.devRef .tc main_v5)
    = shapeCast S4x384x9472 ((dat1 (V3 m ρ) c).arrAt 4 cfg1.N) shapeCasts_S1536x9472_S4x384x9472 := by
  rw [← W4_arr m ρ c 4]
  rfl

/-- The second result: the codes the first call leaves, reshaped. -/
theorem W5_v6 (c : Dev nD) : W5 m ρ c (Proc.devRef .tc main_v6)
    = shapeCast S4x384x11008 ((dat0 (V1 m ρ) c).arrAt 2 cfg0.N) shapeCasts_S1536x11008_S4x384x11008 := by
  rw [← (W4_of m ρ c main_v2_0 (by decide)).trans (V3_v2_0 m ρ c)]
  rfl

/-- The third result: the scales the first call leaves, reshaped. -/
theorem W5_v7 (c : Dev nD) : W5 m ρ c (Proc.devRef .tc main_v7)
    = shapeCast S4x384x1 ((dat0 (V1 m ρ) c).arrAt 3 cfg0.N) shapeCasts_S1536x1_S4x384x1 := by
  rw [← (W4_of m ρ c main_v2_1 (by decide)).trans (V3_v2_1 m ρ c)]
  rfl

-- `θ_run_regions_kit_sems`'s implicit arguments are found by unifying its conclusion with this one, which takes unfolding
-- plain definitions in a metavariable's type
set_option backward.isDefEq.respectTransparency.types false in
/-- Every execution ends with the three results at the last boundary's contents and the arguments as launched. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v5 (by decide)), h c _ (mem_uc main_v6 (by decide)), h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelRun

end
-- ==== Proof.Quant.lean ====
/-
  What one row of the quantised activations is: the row divided by the smoothing factors, its scale, and its codes, as
  functions of the row alone; and the kernel's block of 64 rows and the reference's whole array, read at a row, are
  those functions of that row.
-/
module

public import proofs.«01_k».proof.Proof.Gen.KernelIdeal.Skeleton
public import proofs.«01_k».proof.Proof.Gen.ReferenceIdeal.Skeleton
public import Idealize.ShloMosaic.Lib.Pipeline.ValueKit

@[expose] public section

set_option maxRecDepth 16384

noncomputable section

open Idealize.ShloMosaic

namespace Cert.Quant

/-- One row of the activations divided by the smoothing factors, entry by entry. -/
def smoothed (x s : Fin 11008 → EReal) (k : Fin 11008) : EReal := Ideal.div (x k) (s k)

/-- The largest magnitude in a row. -/
def amax (v : Fin 11008 → EReal) : EReal :=
  Finset.fold max (Ideal.ofBits .f32 0xFF800000#32) (fun k => FloatOps.absf (F := Ideal) (φ := .f32) (v k)) Finset.univ

/-- The scale of a row: one for a row of zeros, otherwise its largest magnitude over 127. -/
def scaleOf (v : Fin 11008 → EReal) : EReal :=
  if amax v = 0 then 1 else Ideal.div (amax v) (Ideal.ofBits .f32 0x42FE0000#32)

/-- The code of an entry `a` of a row with scale `q`: the quotient, rounded to the nearest integer (ties to even), clipped
    to `[-127, 127]` and converted to a signed byte. -/
def round8 (a q : EReal) : BitVec 8 :=
  FloatOps.fptosi (F := Ideal) (φ := .f32) 8
    (min (Ideal.ofBits .f32 0x42FE0000#32)
      (max (Ideal.ofBits .f32 0xC2FE0000#32) (Ideal.liftRound Ideal.roundHalfEven (Ideal.div a q))))

/-- The code of a row's entry, by the row's own scale. -/
def codeOf (v : Fin 11008 → EReal) (k : Fin 11008) : BitVec 8 := round8 (v k) (scaleOf v)

/-! ## The steps of the computation at an index, whatever the shape -/

section Steps

variable {S : Shape}

/-- The scale computed from an array of largest magnitudes, at an index. -/
theorem scale_step (w : FVec Ideal S .f32) (i : S.Idx) :
    select (cmpf .oeq w (broadcast S (Scalar.ofBits .f32 0x00000000#32)))
        (broadcast S (Scalar.ofBits (F := Ideal) .f32 0x3F800000#32))
        (divf w (broadcast S (Scalar.ofBits .f32 0x42FE0000#32))) i
      = if w i = 0 then (1 : EReal) else Ideal.div (w i) (Ideal.ofBits .f32 0x42FE0000#32) := by
  pointwise

/-- The codes computed from the smoothed array and an array of scales, at an index. -/
theorem code_step (v q : FVec Ideal S .f32) (i : S.Idx) :
    fptosi 8 (minimumf (broadcast S (Scalar.ofBits .f32 0x42FE0000#32))
        (maximumf (broadcast S (Scalar.ofBits .f32 0xC2FE0000#32)) (roundeven (divf v q)))) i
      = round8 (v i) (q i) := by
  unfold round8
  pointwise

end Steps

/-! ## The kernel's block of 64 rows -/

section KernelIdeal

open Cert.KernelIdeal Cert.KernelIdeal.Gen

/-- The column of largest magnitudes, at a row. -/
theorem ker_amax (v : FVec Ideal S64x11008 .f32) (r : Fin 64) :
    shapeCast S64x1 (multiReduction .maximumf [1] S64 (absf v) 0xFF800000#32 reduces_S64x11008_S64 (.inl rfl) rfl)
        shapeCasts_S64_S64x1 (ix2 r (0 : Fin 1))
      = amax (fun k => v (ix2 r k)) := by
  unfold amax
  pointwise

/-- The column of scales spread over the rows' entries. -/
theorem ker_spread (p : FVec Ideal S64x1 .f32) (r : Fin 64) (k : Fin 11008) :
    broadcastTo S64x11008 p broadcasts_S64x1_S64x11008 (ix2 r k) = p (ix2 r (0 : Fin 1)) := by
  pointwise

variable (x : Vec Ideal S64x11008 .bf16) (s : Vec Ideal S1x11008 .f32)

/-- The smoothed activations at an index. -/
theorem ker_smoothed (r : Fin 64) (k : Fin 11008) :
    k0_pay1 x s (ix2 r k) = smoothed (fun k => x (ix2 r k)) (fun k => s (ix2 (0 : Fin 1) k)) k := by
  unfold k0_pay1 smoothed
  pointwise

/-- The scales at a row are that row's scale. -/
theorem ker_scale (r : Fin 64) :
    k0_pay2 x s (ix2 r (0 : Fin 1)) = scaleOf (smoothed (fun k => x (ix2 r k)) (fun k => s (ix2 (0 : Fin 1) k))) := by
  rw [← funext (ker_smoothed x s r)]
  unfold k0_pay2 scaleOf
  generalize k0_pay1 x s = v
  refine (scale_step _ _).trans ?_
  rw [ker_amax]

/-- The codes at an index are the code of that entry of its row. -/
theorem ker_code (r : Fin 64) (k : Fin 11008) :
    k0_pay3 x s (ix2 r k) = codeOf (smoothed (fun k => x (ix2 r k)) (fun k => s (ix2 (0 : Fin 1) k))) k := by
  unfold k0_pay3 codeOf
  rw [← ker_scale, ← ker_smoothed]
  generalize k0_pay2 x s = p
  generalize k0_pay1 x s = v
  refine (code_step _ _ _).trans ?_
  rw [ker_spread]

end KernelIdeal

/-! ## The reference's whole array -/

section ReferenceIdeal

open Cert.ReferenceIdeal Cert.ReferenceIdeal.Gen

/-- The column of largest magnitudes, at a row. -/
theorem ref_amax (v : FVec Ideal S1536x11008 .f32) (r : Fin 1536) :
    shapeCast S1536x1 (multiReduction .maximumf [1] S1536 (absf v) 0xFF800000#32 reduces_S1536x11008_S1536 (.inl rfl) rfl)
        shapeCasts_S1536_S1536x1 (ix2 r (0 : Fin 1))
      = amax (fun k => v (ix2 r k)) := by
  unfold amax
  pointwise

/-- The column of scales spread over the rows' entries. -/
theorem ref_spread (p : FVec Ideal S1536x1 .f32) (r : Fin 1536) (k : Fin 11008) :
    broadcastTo S1536x11008 p broadcasts_S1536x1_S1536x11008 (ix2 r k) = p (ix2 r (0 : Fin 1)) := by
  pointwise

variable (x : Vec Ideal S1536x11008 .bf16) (s : Vec Ideal S1x11008 .f32)

/-- The smoothed activations at an index. -/
theorem ref_smoothed (r : Fin 1536) (k : Fin 11008) :
    k0_pay1 x s (ix2 r k) = smoothed (fun k => x (ix2 r k)) (fun k => s (ix2 (0 : Fin 1) k)) k := by
  unfold k0_pay1 smoothed
  pointwise

/-- The scales at a row are that row's scale. -/
theorem ref_scale (r : Fin 1536) :
    k0_pay2 x s (ix2 r (0 : Fin 1)) = scaleOf (smoothed (fun k => x (ix2 r k)) (fun k => s (ix2 (0 : Fin 1) k))) := by
  rw [← funext (ref_smoothed x s r)]
  unfold k0_pay2 scaleOf
  generalize k0_pay1 x s = v
  refine (scale_step _ _).trans ?_
  rw [ref_amax]

/-- The codes at an index are the code of that entry of its row. -/
theorem ref_code (r : Fin 1536) (k : Fin 11008) :
    k0_pay3 x s (ix2 r k) = codeOf (smoothed (fun k => x (ix2 r k)) (fun k => s (ix2 (0 : Fin 1) k))) k := by
  unfold k0_pay3 codeOf
  rw [← ref_scale, ← ref_smoothed]
  generalize k0_pay2 x s = p
  generalize k0_pay1 x s = v
  refine (code_step _ _ _).trans ?_
  rw [ref_spread]

end ReferenceIdeal

end Cert.Quant

end
-- ==== Proof.IntDot.lean ====
/-
  The integer arithmetic of one output element: a sum of products of signed bytes, computed in floating point over at
  most 1024 positions and converted to a 32-bit integer, is the 32-bit integer sum of those products; and the sums over
  eleven consecutive stretches of the contraction add up to the sum over the whole of it.
-/
module

public import Idealize.ShloMosaic.PureOps
public import Idealize.ShloMosaic.PureOps.Ideal.Laws
public import Idealize.ShloMosaic.Lib.IntMxu
public import Mathlib.Data.BitVec
public import Mathlib.Algebra.BigOperators.Intervals

@[expose] public section

noncomputable section

open Idealize.ShloMosaic

namespace Cert.IntDot

/-- The product of two signed bytes as a 32-bit integer. -/
def mac (a b : BitVec 8) : BitVec 32 := a.signExtend 32 * b.signExtend 32

/-- A real that is an integer of magnitude at most `2 ^ 24` converts to that integer's 32-bit word. -/
theorem fptosi_int (n : ℤ) (h : n.natAbs ≤ 2 ^ 24) : Ideal.fptosi 32 (((n : ℝ)) : EReal) = BitVec.ofInt 32 n := by
  unfold Ideal.fptosi
  rw [Ideal.toIntClamped_coe, Int.floor_intCast, Int.ceil_intCast, ite_self]
  congr 1
  norm_num
  omega

/-- The product of two bytes as a word is the word of the product of their signed values. -/
theorem mac_eq (a b : BitVec 8) : mac a b = ((a.toInt * b.toInt : ℤ) : BitVec 32) := by
  unfold mac
  push_cast
  rfl

/-- The embedding of the reals in the extended reals carries a finite sum to the sum. -/
theorem coe_sum {K : ℕ} (f : Fin K → ℝ) : ((∑ k, f k : ℝ) : EReal) = ∑ k, ((f k : ℝ) : EReal) := by
  induction (Finset.univ : Finset (Fin K)) using Finset.induction_on with
  | empty => simp
  | insert x s hx ih => rw [Finset.sum_insert hx, Finset.sum_insert hx, EReal.coe_add, ih]

/-- A sum of at most 1024 products of signed bytes, taken over the reals and converted to a 32-bit integer, is the 32-bit
    integer sum of the products: its magnitude is at most `1024 * 2 ^ 14 = 2 ^ 24`. -/
theorem chunk_word {K : ℕ} (hK : K ≤ 1024) (a b : Fin K → BitVec 8) :
    Ideal.fptosi 32 (∑ k, (((a k).toInt : ℝ) : EReal) * (((b k).toInt : ℝ) : EReal)) = ∑ k, mac (a k) (b k) := by
  have e : (∑ k, (((a k).toInt : ℝ) : EReal) * (((b k).toInt : ℝ) : EReal))
      = (((∑ k, (a k).toInt * (b k).toInt : ℤ) : ℝ) : EReal) := by
    rw [Int.cast_sum]
    refine (Finset.sum_congr rfl fun k _ => ?_).trans (coe_sum _).symm
    push_cast
    rfl
  rw [e, fptosi_int]
  · simp only [mac_eq]
    exact Int.cast_sum (R := BitVec 32) _ _
  · have h : (∑ k, (a k).toInt * (b k).toInt).natAbs ≤ ∑ _k : Fin K, 128 * 128 :=
      (Int.natAbs_sum_le _ _).trans (Finset.sum_le_sum fun k _ => by
        rw [Int.natAbs_mul]
        exact Nat.mul_le_mul (natAbs_toInt_i8_le _) (natAbs_toInt_i8_le _))
    simp only [Finset.sum_const, Finset.card_univ, Fintype.card_fin, smul_eq_mul] at h
    omega

end Cert.IntDot

end
-- ==== Proof.Acc.lean ====
/-
  What one step of the kernel's second call computes: its 32-bit accumulator, added up over eleven stretches of the
  contraction, is the integer sum over the whole contraction of the products of the codes, and the block it stores is
  that sum scaled by the row's and the column's scales.
-/
module

public import proofs.«01_k».proof.Proof.Gen.KernelIdeal.Frame
public import proofs.«01_k».proof.Proof.IntDot
public import Idealize.ShloMosaic.Lib.Pipeline.ValueKit
public import Idealize.ShloMosaic.Lib.Pipeline.ReadBack

@[expose] public section

set_option maxRecDepth 16384

noncomputable section

open Idealize.ShloMosaic Idealize.ShloMosaic.TcCoe

namespace Cert.Acc

open Cert.KernelIdeal Cert.KernelIdeal.Gen

/-! ## The accumulation payloads at an index -/

/-- One accumulation over 1024 positions adds the integer sum of their products. -/
theorem step (x : Vec Ideal S1536x1024 .i8) (w : Vec Ideal S1024x256 .i8) (a : Vec Ideal S1536x256 .i32)
    (r : Fin 1536) (n : Fin 256) :
    shapeCast S1536x256 (addi a (fptosi 32 (matmul dot_S1536x1024_S1024x256_S1536x256_1_0_0_1_n_n none
        (sitofp (F := Ideal) .bf16 (shapeCast S1536x1024 x shapeCasts_S1536x1024_S1536x1024)) (sitofp .bf16 w)
        (constant S1536x256 .f32 0x00000000#32)))) shapeCasts_S1536x256_S1536x256 (ix2 r n)
      = a (ix2 r n) + ∑ k : Fin 1024, IntDot.mac (x (ix2 r k)) (w (ix2 k n)) := by
  rw [← IntDot.chunk_word le_rfl]
  pointwise
  rfl

/-- The first accumulation: the accumulator starts as the integer sum over the first 1024 positions. -/
theorem pay2_apply (x : Vec Ideal S1536x1024 .i8) (w : Vec Ideal S1024x256 .i8) (r : Fin 1536) (n : Fin 256) :
    k1_pay2 x w (ix2 r n) = ∑ k : Fin 1024, IntDot.mac (x (ix2 r k)) (w (ix2 k n)) := by
  rw [← IntDot.chunk_word le_rfl]
  unfold k1_pay2
  pointwise
  rfl

/-- The last accumulation, over 768 positions. -/
theorem pay15_apply (x : Vec Ideal S1536x768 .i8) (w : Vec Ideal S768x256 .i8) (a : Vec Ideal S1536x256 .i32)
    (r : Fin 1536) (n : Fin 256) :
    k1_pay15 x w a (ix2 r n) = a (ix2 r n) + ∑ k : Fin 768, IntDot.mac (x (ix2 r k)) (w (ix2 k n)) := by
  rw [← IntDot.chunk_word (by omega)]
  unfold k1_pay15
  pointwise
  rfl

/-- The stored block: the accumulator as a real, times the row's scale, times the column's scale. -/
theorem pay1_apply (a : Vec Ideal S1536x256 .i32) (p : Vec Ideal S1536x1 .f32) (q : Vec Ideal S1x256 .f32)
    (r : Fin 1536) (n : Fin 256) :
    k1_pay1 a p q (ix2 r n)
      = (((a (ix2 r n)).toInt : ℝ) : EReal) * p (ix2 r (0 : Fin 1)) * q (ix2 (0 : Fin 1) n) := by
  unfold k1_pay1
  pointwise
  rfl

/-! ## The contraction in stretches -/

section Stretches

variable (X : Vec Ideal S1536x11008 .i8) (W : Vec Ideal S11008x256 .i8) (r : Fin 1536) (n : Fin 256)

/-- The product at position `k` of the contraction (zero past its end). -/
def term (k : ℕ) : BitVec 32 :=
  if h : k < 11008 then IntDot.mac (X (ix2 r ⟨k, h⟩)) (W (ix2 ⟨k, h⟩ n)) else 0

/-- The sum of the products read from a stretch of `L` positions starting at `lo`. -/
theorem stretch {L lo : ℕ} (hx : ∀ a, (![0, lo] : Fin 2 → ℕ) a + (![1536, L] : Fin 2 → ℕ) a ≤ S1536x11008.size a)
    (hw : ∀ a, (![lo, 0] : Fin 2 → ℕ) a + (![L, 256] : Fin 2 → ℕ) a ≤ S11008x256.size a) :
    ∑ k : Fin L, IntDot.mac (View.ld X (Rect.unit (s := S1536x11008) ![0, lo] ![1536, L] hx) (ix2 r k))
        (View.ld W (Rect.unit (s := S11008x256) ![lo, 0] ![L, 256] hw) (ix2 k n))
      = ∑ k ∈ Finset.range L, term X W r n (lo + k) := by
  rw [Finset.sum_range]
  refine Finset.sum_congr rfl fun k _ => ?_
  have hk : lo + k.val < 11008 := lt_of_lt_of_le (Nat.add_lt_add_left k.isLt lo) (hx 1)
  unfold term
  rw [dif_pos hk]
  congr 1
  · refine View.ld_unit_apply_of _ _ _ _ _ _ (Fin.forall_fin_two.mpr ⟨?_, ?_⟩)
    · exact (Nat.zero_add _).symm
    · rfl
  · refine View.ld_unit_apply_of _ _ _ _ _ _ (Fin.forall_fin_two.mpr ⟨?_, ?_⟩)
    · rfl
    · exact (Nat.zero_add _).symm

/-- The accumulator after the eleven accumulations, at an index: the integer sum over the whole contraction. -/
theorem total :
    k1_pay15 (View.ld X (Rect.unit ![0, 10240] ![1536, 768] inb_S1536x11008_S1536x768_0_10240))
        (View.ld W (Rect.unit ![10240, 0] ![768, 256] inb_S11008x256_S768x256_10240_0))
        (k1_pay14 (F := Ideal) (View.ld X (Rect.unit ![0, 9216] ![1536, 1024] inb_S1536x11008_S1536x1024_0_9216))
          (View.ld W (Rect.unit ![9216, 0] ![1024, 256] inb_S11008x256_S1024x256_9216_0))
          (k1_pay13 (F := Ideal)
            (k1_pay12 (View.ld X (Rect.unit ![0, 8192] ![1536, 1024] inb_S1536x11008_S1536x1024_0_8192)))
            (View.ld W (Rect.unit ![8192, 0] ![1024, 256] inb_S11008x256_S1024x256_8192_0))
            (k1_pay11 (F := Ideal) (View.ld X (Rect.unit ![0, 7168] ![1536, 1024] inb_S1536x11008_S1536x1024_0_7168))
              (View.ld W (Rect.unit ![7168, 0] ![1024, 256] inb_S11008x256_S1024x256_7168_0))
              (k1_pay10 (F := Ideal) (View.ld X (Rect.unit ![0, 6144] ![1536, 1024] inb_S1536x11008_S1536x1024_0_6144))
                (View.ld W (Rect.unit ![6144, 0] ![1024, 256] inb_S11008x256_S1024x256_6144_0))
                (k1_pay9 (F := Ideal)
                  (k1_pay8
                    (View.ld X (Rect.unit ![0, 5120] ![1536, 1024] inb_S1536x11008_S1536x1024_0_5120))
                    (View.ld W (Rect.unit ![5120, 0] ![1024, 256] inb_S11008x256_S1024x256_5120_0)))
                  (k1_pay7 (F := Ideal)
                    (View.ld X (Rect.unit ![0, 4096] ![1536, 1024] inb_S1536x11008_S1536x1024_0_4096))
                    (View.ld W (Rect.unit ![4096, 0] ![1024, 256] inb_S11008x256_S1024x256_4096_0))
                    (k1_pay6 (F := Ideal)
                      (View.ld X (Rect.unit ![0, 3072] ![1536, 1024] inb_S1536x11008_S1536x1024_0_3072))
                      (View.ld W (Rect.unit ![3072, 0] ![1024, 256] inb_S11008x256_S1024x256_3072_0))
                      (k1_pay5
                        (k1_pay4
                          (View.ld X (Rect.unit ![0, 2048] ![1536, 1024] inb_S1536x11008_S1536x1024_0_2048))
                          (View.ld W (Rect.unit ![2048, 0] ![1024, 256] inb_S11008x256_S1024x256_2048_0))
                          (k1_pay3 (F := Ideal)
                            (View.ld X (Rect.unit ![0, 1024] ![1536, 1024] inb_S1536x11008_S1536x1024_0_1024))
                            (View.ld W (Rect.unit ![1024, 0] ![1024, 256] inb_S11008x256_S1024x256_1024_0))
                            (k1_pay2 (F := Ideal)
                              (View.ld X (Rect.unit ![0, 0] ![1536, 1024] inb_S1536x11008_S1536x1024_0_0))
                              (View.ld W (Rect.unit ![0, 0] ![1024, 256] inb_S11008x256_S1024x256_0_0)))))))))))))
        (ix2 r n)
      = ∑ k : Fin 11008, IntDot.mac (X (ix2 r k)) (W (ix2 k n)) := by
  have h3 := fun x w a => show k1_pay3 (F := Ideal) x w a (ix2 r n) = _ from step x w a r n
  have h5 := fun x w a => show k1_pay5 (k1_pay4 (F := Ideal) x w a) (ix2 r n) = _ from step x w a r n
  have h6 := fun x w a => show k1_pay6 (F := Ideal) x w a (ix2 r n) = _ from step x w a r n
  have h7 := fun x w a => show k1_pay7 (F := Ideal) x w a (ix2 r n) = _ from step x w a r n
  have h9 := fun x w a => show k1_pay9 (F := Ideal) (k1_pay8 (F := Ideal) x w) a (ix2 r n) = _ from step x w a r n
  have h10 := fun x w a => show k1_pay10 (F := Ideal) x w a (ix2 r n) = _ from step x w a r n
  have h11 := fun x w a => show k1_pay11 (F := Ideal) x w a (ix2 r n) = _ from step x w a r n
  have h13 := fun x w a => show k1_pay13 (F := Ideal) (k1_pay12 (F := Ideal) x) w a (ix2 r n) = _ from step x w a r n
  have h14 := fun x w a => show k1_pay14 (F := Ideal) x w a (ix2 r n) = _ from step x w a r n
  rw [pay15_apply, h14, h13, h11, h10, h9, h7, h6, h5, h3, pay2_apply]
  simp only [stretch]
  have e : (∑ k : Fin 11008, IntDot.mac (X (ix2 r k)) (W (ix2 k n))) = ∑ k ∈ Finset.range 11008, term X W r n k := by
    rw [Finset.sum_range]
    exact Finset.sum_congr rfl fun k _ => by unfold term; rw [dif_pos k.isLt]
  have a : ∀ m l : ℕ, (∑ k ∈ Finset.range m, term X W r n k) + (∑ k ∈ Finset.range l, term X W r n (m + k))
      = ∑ k ∈ Finset.range (m + l), term X W r n k := fun m l => (Finset.sum_range_add _ m l).symm
  simp only [Nat.zero_add]
  rw [e, a, a, a, a, a, a, a, a, a, a]

end Stretches

/-! ## What a step of the second call stores -/

variable (V : (c : Dev nD) → (b : Ref sig .tc) → Buf (Elt Ideal) ((c : Thread nD τ).loc b))

/-- The block that step `t` of the second call stores, at an index, from the blocks it reads. -/
theorem outs_apply (c : Dev nD) (t : Fin cfg1.N) (r : Fin 1536) (n : Fin 256)
    (X : Vec Ideal S1536x11008 .i8) (W : Vec Ideal S11008x256 .i8) (p : Vec Ideal S1536x1 .f32) (q : Vec Ideal S1x256 .f32)
    (hX : iblk1 V c 0 t = X) (hW : iblk1 V c 1 t = W) (hp : iblk1 V c 2 t = p) (hq : iblk1 V c 3 t = q) :
    outsAt1 V c t (ix2 r n)
      = (((∑ k : Fin 11008, IntDot.mac (X (ix2 r k)) (W (ix2 k n)) : BitVec 32).toInt : ℝ) : EReal)
          * p (ix2 r (0 : Fin 1)) * q (ix2 (0 : Fin 1) n) := by
  rw [← total X W r n, ← pay1_apply]
  subst hX hW hp hq
  unfold outsAt1
  frame_open
  simp (disch := decide) only [↓ View.readCov_skip, ↓ View.readCov_cons_toLoadRect, ↓ View.readCov_fill]
  frame_out

end Cert.Acc

end
-- ==== Proof.KernelArrays.lean ====
/-
  What the kernel's two calls leave in their output arrays, whole: the codes and the scales of every row, and the scaled
  integer product.
-/
module

public import proofs.«01_k».proof.Proof.Gen.KernelIdeal.Frame
public import proofs.«01_k».proof.Proof.Quant
public import proofs.«01_k».proof.Proof.Acc
public import Idealize.ShloMosaic.Lib.Pipeline.ValueKit

@[expose] public section

set_option maxRecDepth 16384

noncomputable section

open Idealize.ShloMosaic Idealize.ShloMosaic.TcCoe

namespace Cert.KernelArrays

open Cert.KernelIdeal Cert.KernelIdeal.Gen

variable (V : (c : Dev nD) → (b : Ref sig .tc) → Buf (Elt Ideal) ((c : Thread nD τ).loc b))

/-- The rows' blocks of the first call: step `t` reads and writes rows `64 t` to `64 t + 63`. -/
theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)

/-- Row `r` of the activations the first call reads, over the smoothing factors. -/
def row (c : Dev nD) (r : Fin 1536) : Fin 11008 → EReal :=
  Quant.smoothed (fun k => V c main_v0 (ix2 r k)) (fun k => V c main_v1 (ix2 (0 : Fin 1) k))

/-- The row that row `r` of step `t`'s blocks is. -/
def rowOf (t : Fin cfg0.N) (r : Fin 64) : Fin 1536 :=
  ⟨t.val * 64 + r.val, by
    have h : t.val < 24 := t.isLt
    omega⟩

/-- Row `r` of step `t`'s block of the activations is row `64 t + r` of the array. -/
theorem blk_row (c : Dev nD) (t : Fin cfg0.N) (r : Fin 64) :
    Quant.smoothed (fun k => iblk0 V c 0 t (ix2 r k)) (fun k => iblk0 V c 1 t (ix2 (0 : Fin 1) k))
      = row V c (rowOf t r) := by
  have hx : ∀ k : Fin 11008, iblk0 V c 0 t (ix2 r k) = V c main_v0 (ix2 (rowOf t r) k) := fun k => by
    blk_simp [iblk0]
    congr 1
    blk_ext [idx0_0 t, rowOf]
  have hs : ∀ k : Fin 11008, iblk0 V c 1 t (ix2 (0 : Fin 1) k) = V c main_v1 (ix2 (0 : Fin 1) k) := fun k => by
    blk_simp [iblk0]
    congr 1
    blk_ext [idx0_1 t]
  unfold row
  rw [funext hx, funext hs]

/-- The codes step `t` stores. -/
theorem codes_blk (c : Dev nD) (t : Fin cfg0.N) (r : Fin 64) (k : Fin 11008) :
    k0_pay3 (iblk0 V c 0 t) (iblk0 V c 1 t) (ix2 r k) = Quant.codeOf (row V c (rowOf t r)) k := by
  rw [← blk_row]
  exact Quant.ker_code _ _ r k

/-- The scales step `t` stores. -/
theorem scales_blk (c : Dev nD) (t : Fin cfg0.N) (r : Fin 64) :
    k0_pay2 (iblk0 V c 0 t) (iblk0 V c 1 t) (ix2 r (0 : Fin 1)) = Quant.scaleOf (row V c (rowOf t r)) := by
  rw [← blk_row]
  exact Quant.ker_scale _ _ r

/-- An index of a one-column array is its row and column zero. -/
theorem eq_col {R : ℕ} (y : (⟨2, ![R, 1]⟩ : Shape).Idx) : y = ix2 (y 0) (0 : Fin 1) :=
  (eq_ix2 y).trans (congrArg (fun b : Fin 1 => ix2 (n0 := R) (y 0) b) (Subsingleton.elim _ _))

/-- The codes the first call leaves. -/
theorem codes (c : Dev nD) : (dat0 V c).arrAt 2 cfg0.N = fun i => Quant.codeOf (row V c (i 0)) (i 1) := by
  refine (dat0 V c).arrAt_eq_of_covers 2 _ (by decide +kernel) fun t hf y => ?_
  blk_simp
  rw [after0_2]
  frame_out
  refine (congrArg _ (eq_ix2 y)).trans ((codes_blk V c t (y 0) (y 1)).trans
    (congrArg₂ (fun a b => Quant.codeOf (row V c a) b) (Fin.ext ?_) (Fin.ext ?_)))
  · blk_simp [idx0_2 t, rowOf]
  · blk_simp [idx0_2 t]

/-- The scales the first call leaves. -/
theorem scales (c : Dev nD) : (dat0 V c).arrAt 3 cfg0.N = fun i => Quant.scaleOf (row V c (i 0)) := by
  refine (dat0 V c).arrAt_eq_of_covers 3 _ (by decide +kernel) fun t hf y => ?_
  blk_simp
  rw [after0_3]
  frame_out
  refine (congrArg _ (eq_col y)).trans ((scales_blk V c t (y 0)).trans
    (congrArg (fun a => Quant.scaleOf (row V c a)) (Fin.ext ?_)))
  blk_simp [idx0_3 t, rowOf]

/-! ## The second call -/

theorem idx1_0 : ∀ t : Fin cfg1.N, win1_0.index t = ![0, 0] := (by decide +kernel : ∀ t : Fin grid1.N, _)
theorem idx1_1 : ∀ t : Fin cfg1.N, win1_1.index t = ![0, t.val] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, t.val] := (by decide +kernel : ∀ t : Fin grid1.N, _)
theorem idx1_4 : ∀ t : Fin cfg1.N, win1_4.index t = ![0, t.val] := (by decide +kernel : ∀ t : Fin grid1.N, _)

/-- The column that column `n` of step `t`'s blocks is. -/
def colOf (t : Fin cfg1.N) (n : Fin 256) : Fin 9472 :=
  ⟨t.val * 256 + n.val, by
    have h : t.val < 37 := t.isLt
    omega⟩

/-- The scaled integer product of codes `X`, weights' codes `W`, rows' scales `p` and columns' scales `q`, at an index. -/
def scaled (X : Vec Ideal S1536x11008 .i8) (W : Vec Ideal S11008x9472 .i8) (p : Vec Ideal S1536x1 .f32)
    (q : Vec Ideal S1x9472 .f32) (r : Fin 1536) (n : Fin 9472) : EReal :=
  (((∑ k : Fin 11008, IntDot.mac (X (ix2 r k)) (W (ix2 k n)) : BitVec 32).toInt : ℝ) : EReal)
    * p (ix2 r (0 : Fin 1)) * q (ix2 (0 : Fin 1) n)

/-- The scaled product step `t` stores. -/
theorem product_blk (c : Dev nD) (t : Fin cfg1.N) (r : Fin 1536) (n : Fin 256) :
    outsAt1 V c t (ix2 r n)
      = scaled (V c main_v2_0) (V c main_arg2) (V c main_v2_1) (V c main_v3) r (colOf t n) := by
  refine (Acc.outs_apply V c t r n _ _ _ _ rfl rfl rfl rfl).trans ?_
  have e0 : ∀ k : Fin 11008, iblk1 V c 0 t (ix2 r k) = V c main_v2_0 (ix2 r k) := fun k => by
    blk_simp [iblk1]
    congr 1
    blk_ext [idx1_0 t]
  have e1 : ∀ k : Fin 11008, iblk1 V c 1 t (ix2 k n) = V c main_arg2 (ix2 k (colOf t n)) := fun k => by
    blk_simp [iblk1]
    congr 1
    blk_ext [idx1_1 t, colOf]
  have e2 : iblk1 V c 2 t (ix2 r (0 : Fin 1)) = V c main_v2_1 (ix2 r (0 : Fin 1)) := by
    blk_simp [iblk1]
    congr 1
    blk_ext [idx1_2 t]
  have e3 : iblk1 V c 3 t (ix2 (0 : Fin 1) n) = V c main_v3 (ix2 (0 : Fin 1) (colOf t n)) := by
    blk_simp [iblk1]
    congr 1
    blk_ext [idx1_3 t, colOf]
  simp only [e0, e1, e2, e3]
  rfl

/-- The scaled product the second call leaves. -/
theorem product (c : Dev nD) : (dat1 V c).arrAt 4 cfg1.N
    = fun i => scaled (V c main_v2_0) (V c main_arg2) (V c main_v2_1) (V c main_v3) (i 0) (i 1) := by
  refine (dat1 V c).arrAt_eq_of_covers 4 _ (by decide +kernel) fun t hf y => ?_
  blk_simp
  rw [after1_4]
  refine (congrArg _ (eq_ix2 y)).trans ((product_blk V c t (y 0) (y 1)).trans
    (congrArg₂ (scaled _ _ _ _) (Fin.ext ?_) (Fin.ext ?_)))
  · blk_simp [idx1_4 t]
  · blk_simp [idx1_4 t, colOf]

end Cert.KernelArrays

end
-- ==== Proof.RefValue.lean ====
/-
  What the reference's one call leaves in its output arrays, whole: the codes and the scales of every row.
-/
module

public import proofs.«01_k».proof.Proof.Gen.ReferenceIdeal.Run
public import proofs.«01_k».proof.Proof.Quant
public import Idealize.ShloMosaic.Lib.Pipeline.ValueKit

@[expose] public section

set_option maxRecDepth 16384

noncomputable section

open Idealize.ShloMosaic Idealize.ShloMosaic.TcCoe

namespace Cert.RefValue

open Cert.ReferenceIdeal Cert.ReferenceIdeal.Gen

variable (m : (ℓ : Loc nD τ sig) → Buf (Elt Ideal) ℓ)

/-! ## The codes and the scales -/

/-- The call reads the activations reshaped to 1536 rows. -/
theorem V_v0 (c : Dev nD) : V m c main_v0
    = shapeCast S1536x11008 (m ((c : Thread nD τ).loc main_arg0)) shapeCasts_S4x384x11008_S1536x11008 := rfl

/-- The call reads the smoothing factors as one row. -/
theorem V_v1 (c : Dev nD) : V m c main_v1
    = shapeCast S1x11008 (m ((c : Thread nD τ).loc main_arg1)) shapeCasts_S11008_S1x11008 := rfl

/-- Row `r` of the activations, over the smoothing factors. -/
def row (c : Dev nD) (r : Fin 1536) : Fin 11008 → EReal :=
  Quant.smoothed (fun k => V m c main_v0 (ix2 r k)) (fun k => V m c main_v1 (ix2 (0 : Fin 1) k))

theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)

/-- The call's one block of the activations is the whole array. -/
theorem blk_row (c : Dev nD) (t : Fin cfg0.N) (r : Fin 1536) :
    Quant.smoothed (fun k => iblk m c 0 t (ix2 r k)) (fun k => iblk m c 1 t (ix2 (0 : Fin 1) k)) = row m c r := by
  have hx : ∀ k : Fin 11008, iblk m c 0 t (ix2 r k) = V m c main_v0 (ix2 r k) := fun k => by
    blk_simp [iblk]
    congr 1
    blk_ext [idx0_0 t]
  have hs : ∀ k : Fin 11008, iblk m c 1 t (ix2 (0 : Fin 1) k) = V m c main_v1 (ix2 (0 : Fin 1) k) := fun k => by
    blk_simp [iblk]
    congr 1
    blk_ext [idx0_1 t]
  unfold row
  rw [funext hx, funext hs]

/-- The codes the call stores. -/
theorem codes_blk (c : Dev nD) (t : Fin cfg0.N) (r : Fin 1536) (k : Fin 11008) :
    k0_pay3 (iblk m c 0 t) (iblk m c 1 t) (ix2 r k) = Quant.codeOf (row m c r) k := by
  rw [← blk_row m c t]
  exact Quant.ref_code _ _ r k

/-- The scales the call stores. -/
theorem scales_blk (c : Dev nD) (t : Fin cfg0.N) (r : Fin 1536) :
    k0_pay2 (iblk m c 0 t) (iblk m c 1 t) (ix2 r (0 : Fin 1)) = Quant.scaleOf (row m c r) := by
  rw [← blk_row m c t]
  exact Quant.ref_scale _ _ r

/-- An index of a one-column array is its row and column zero. -/
theorem eq_col {R : ℕ} (y : (⟨2, ![R, 1]⟩ : Shape).Idx) : y = ix2 (y 0) (0 : Fin 1) :=
  (eq_ix2 y).trans (congrArg (fun b : Fin 1 => ix2 (n0 := R) (y 0) b) (Subsingleton.elim _ _))

/-- The codes the call leaves. -/
theorem codes (c : Dev nD) : Value.reg_main_v2_0 m c = fun i => Quant.codeOf (row m c (i 0)) (i 1) := by
  unfold Value.reg_main_v2_0
  refine (dats m 0 c).arrAt_eq_of_covers 2 _ (by decide +kernel) fun t hf y => ?_
  blk_simp
  rw [after0_2]
  frame_out
  refine (congrArg _ (eq_ix2 y)).trans ((codes_blk m c t (y 0) (y 1)).trans
    (congrArg₂ (fun a b => Quant.codeOf (row m c a) b) (Fin.ext ?_) (Fin.ext ?_)))
  · blk_simp [idx0_2 t]
  · blk_simp [idx0_2 t]

/-- The scales the call leaves. -/
theorem scales (c : Dev nD) : Value.reg_main_v2_1 m c = fun i => Quant.scaleOf (row m c (i 0)) := by
  unfold Value.reg_main_v2_1
  refine (dats m 0 c).arrAt_eq_of_covers 3 _ (by decide +kernel) fun t hf y => ?_
  blk_simp
  rw [after0_3]
  frame_out
  refine (congrArg _ (eq_col y)).trans ((scales_blk m c t (y 0)).trans
    (congrArg (fun a => Quant.scaleOf (row m c a)) (Fin.ext ?_)))
  blk_simp [idx0_3 t]

end Cert.RefValue

end
-- ==== Proof.RefSum.lean ====
/-
  The reference's product: the integer sum over the contraction of the products of the codes, scaled by the row's and the
  column's scales.
-/
module

public import proofs.«01_k».proof.Proof.Gen.ReferenceIdeal.Read
public import proofs.«01_k».proof.Proof.IntDot
public import Idealize.ShloMosaic.Lib.Pipeline.ValueKit

@[expose] public section

set_option maxRecDepth 16384

noncomputable section

open Idealize.ShloMosaic Idealize.ShloMosaic.TcCoe

namespace Cert.RefSum

open Cert.ReferenceIdeal Cert.ReferenceIdeal.Gen Cert.ReferenceIdeal.Read

variable (w : Vec Ideal S11008x9472 .i8) (x : Vec Ideal S1536x11008 .i8)

/-- A fold of the integer addition from zero is the sum. -/
theorem fold_addi {K : ℕ} (f : Fin K → BitVec 32) :
    Finset.fold IntOp.addi 0#32 f (Finset.univ : Finset (Fin K)) = ∑ k, f k := by
  induction (Finset.univ : Finset (Fin K)) using Finset.induction_on with
  | empty => rfl
  | insert a s ha ih => rw [Finset.fold_insert ha, Finset.sum_insert ha, ih]; rfl

/-- A product of the array that the reference sums. -/
theorem prod_apply (r : Fin 1536) (k : Fin 11008) (n : Fin 9472) :
    val_main_v9 (F := Ideal) w x (ix3 r k n) = IntDot.mac (x (ix2 r k)) (w (ix2 k n)) := by
  rw [val_main_v9_apply, val_main_v7_apply, val_main_v4_apply, val_main_v3_apply, val_main_v8_apply, val_main_v6_apply,
    val_main_v5_apply]
  unfold IntDot.mac
  refine congrArg₂ (fun a b : BitVec 8 => a.signExtend 32 * b.signExtend 32) (congrArg x ?_) (congrArg w ?_)
  · exact (eq_ix2 _).trans rfl
  · exact (eq_ix2 _).trans rfl

/-- The reference's integer sum at an index: over the whole contraction, the products of the codes. -/
theorem acc_apply (r : Fin 1536) (n : Fin 9472) :
    val_main_v10 (F := Ideal) w x (ix2 r n) = ∑ k : Fin 11008, IntDot.mac (x (ix2 r k)) (w (ix2 k n)) := by
  rw [← fold_addi]
  simp only [← prod_apply]
  unfold val_main_v10
  generalize val_main_v9 (F := Ideal) w x = v
  unfold val_main_c
  pointwise

/-- The reference's scaled product at an index. -/
theorem scaled_apply (p : Vec Ideal S1536x1 .f32) (q : Vec Ideal S9472 .f32) (r : Fin 1536) (n : Fin 9472) :
    val_main_v17 (F := Ideal) w q x p (ix2 r n)
      = (((∑ k : Fin 11008, IntDot.mac (x (ix2 r k)) (w (ix2 k n)) : BitVec 32).toInt : ℝ) : EReal)
          * p (ix2 r (0 : Fin 1)) * q (ix1 n) := by
  rw [← acc_apply]
  unfold val_main_v17 val_main_v16 val_main_v13 val_main_v15 val_main_v14 val_main_v12 val_main_v11
  generalize val_main_v10 (F := Ideal) w x = a
  pointwise
  rfl

end Cert.RefSum

end
-- ==== Proof.Equation.lean ====
/-
  The two programs' arrays are equal when their arguments are: the codes, the scales, and the scaled product; hence the
  three results.
-/
module

public import proofs.«01_k».proof.Proof.KernelRun
public import proofs.«01_k».proof.Proof.KernelArrays
public import proofs.«01_k».proof.Proof.RefValue
public import proofs.«01_k».proof.Proof.RefSum

@[expose] public section

set_option maxRecDepth 16384

noncomputable section

open Idealize.ShloMosaic Idealize.ShloMosaic.TcCoe Idealize.SL.Sem

namespace Cert.Equation

variable (m : (ℓ : Loc KernelIdeal.nD KernelIdeal.τ KernelIdeal.sig) → Buf (Elt Ideal) ℓ)
  (ρ : Dev KernelIdeal.nD → PrngReg)
  (m' : (ℓ : Loc ReferenceIdeal.nD ReferenceIdeal.τ ReferenceIdeal.sig) → Buf (Elt Ideal) ℓ)

/-- The two programs are launched with the same four arguments on device `c`. -/
def SameArgs (c : Dev KernelIdeal.nD) : Prop :=
  m' ((c.tc : Thread ReferenceIdeal.nD ReferenceIdeal.τ).loc ReferenceIdeal.main_arg0)
      = m ((c.tc : Thread KernelIdeal.nD KernelIdeal.τ).loc KernelIdeal.main_arg0)
    ∧ m' ((c.tc : Thread ReferenceIdeal.nD ReferenceIdeal.τ).loc ReferenceIdeal.main_arg1)
      = m ((c.tc : Thread KernelIdeal.nD KernelIdeal.τ).loc KernelIdeal.main_arg1)
    ∧ m' ((c.tc : Thread ReferenceIdeal.nD ReferenceIdeal.τ).loc ReferenceIdeal.main_arg2)
      = m ((c.tc : Thread KernelIdeal.nD KernelIdeal.τ).loc KernelIdeal.main_arg2)
    ∧ m' ((c.tc : Thread ReferenceIdeal.nD ReferenceIdeal.τ).loc ReferenceIdeal.main_arg3)
      = m ((c.tc : Thread KernelIdeal.nD KernelIdeal.τ).loc KernelIdeal.main_arg3)

variable {m m'} {c : Dev KernelIdeal.nD} (h : SameArgs m m' c)
include h

/-- Every row of the activations over the smoothing factors is the same in both programs. -/
theorem row_eq : RefValue.row m' c = KernelArrays.row (KernelIdeal.Gen.V1 m ρ) c := by
  funext r
  unfold RefValue.row KernelArrays.row
  rw [RefValue.V_v0, RefValue.V_v1, KernelRun.V1_v0, KernelRun.V1_v1, h.1, h.2.1]

/-- The two programs' codes are equal. -/
theorem codes_eq : ReferenceIdeal.Value.reg_main_v2_0 m' c
    = (KernelIdeal.Gen.dat0 (KernelIdeal.Gen.V1 m ρ) c).arrAt 2 KernelIdeal.cfg0.N := by
  rw [RefValue.codes, KernelArrays.codes, row_eq ρ h]
  rfl

/-- The two programs' scales are equal. -/
theorem scales_eq : ReferenceIdeal.Value.reg_main_v2_1 m' c
    = (KernelIdeal.Gen.dat0 (KernelIdeal.Gen.V1 m ρ) c).arrAt 3 KernelIdeal.cfg0.N := by
  rw [RefValue.scales, KernelArrays.scales, row_eq ρ h]
  rfl

omit h in
/-- The columns' scales as one row, at a column. -/
theorem colScale (q : Vec Ideal KernelIdeal.S9472 .f32) (n : Fin 9472) :
    shapeCast KernelIdeal.S1x9472 q KernelIdeal.Gen.shapeCasts_S9472_S1x9472 (ix2 (0 : Fin 1) n) = q (ix1 n) := by
  pointwise

/-- The two programs' scaled products are equal. -/
theorem product_eq : ReferenceIdeal.Read.val_main_v17 (F := Ideal)
      (m' ((c.tc : Thread ReferenceIdeal.nD ReferenceIdeal.τ).loc ReferenceIdeal.main_arg2))
      (m' ((c.tc : Thread ReferenceIdeal.nD ReferenceIdeal.τ).loc ReferenceIdeal.main_arg3))
      (ReferenceIdeal.Value.reg_main_v2_0 m' c) (ReferenceIdeal.Value.reg_main_v2_1 m' c)
    = (KernelIdeal.Gen.dat1 (KernelIdeal.Gen.V3 m ρ) c).arrAt 4 KernelIdeal.cfg1.N := by
  rw [KernelArrays.product, KernelRun.V3_v2_0, KernelRun.V3_v2_1, KernelRun.V3_arg2, KernelRun.V3_v3, codes_eq ρ h,
    scales_eq ρ h, h.2.2.1, h.2.2.2]
  funext i
  refine (congrArg _ (eq_ix2 i)).trans ((RefSum.scaled_apply _ _ _ _ (i 0) (i 1)).trans ?_)
  unfold KernelArrays.scaled
  exact congrArg _ (colScale _ (i 1)).symm

omit h in
/-- The reference ends with the kernel's three results in its own result buffers, its arguments unchanged. -/
theorem reference_run (ρ' : Dev ReferenceIdeal.nD → PrngReg) (hs : ∀ c, SameArgs m m' c) :
    θ_run (ReferenceIdeal.defs (F := Ideal)) (onTc (τ := ReferenceIdeal.τ) (ReferenceIdeal.main (F := Ideal)))
      ⟨m', fun _ => 0, ρ'⟩ (fun r => ∀ c : Dev ReferenceIdeal.nD,
        r.2.mem ((c.tc : Thread ReferenceIdeal.nD ReferenceIdeal.τ).loc ReferenceIdeal.main_v18)
          = KernelIdeal.Gen.W5 m ρ c (Proc.devRef .tc KernelIdeal.main_v5)
        ∧ r.2.mem ((c.tc : Thread ReferenceIdeal.nD ReferenceIdeal.τ).loc ReferenceIdeal.main_v19)
          = KernelIdeal.Gen.W5 m ρ c (Proc.devRef .tc KernelIdeal.main_v6)
        ∧ r.2.mem ((c.tc : Thread ReferenceIdeal.nD ReferenceIdeal.τ).loc ReferenceIdeal.main_v20)
          = KernelIdeal.Gen.W5 m ρ c (Proc.devRef .tc KernelIdeal.main_v7)
        ∧ r.2.mem ((c.tc : Thread ReferenceIdeal.nD ReferenceIdeal.τ).loc ReferenceIdeal.main_arg0)
          = m' ((c.tc : Thread ReferenceIdeal.nD ReferenceIdeal.τ).loc ReferenceIdeal.main_arg0)
        ∧ r.2.mem ((c.tc : Thread ReferenceIdeal.nD ReferenceIdeal.τ).loc ReferenceIdeal.main_arg1)
          = m' ((c.tc : Thread ReferenceIdeal.nD ReferenceIdeal.τ).loc ReferenceIdeal.main_arg1)
        ∧ r.2.mem ((c.tc : Thread ReferenceIdeal.nD ReferenceIdeal.τ).loc ReferenceIdeal.main_arg2)
          = m' ((c.tc : Thread ReferenceIdeal.nD ReferenceIdeal.τ).loc ReferenceIdeal.main_arg2)
        ∧ r.2.mem ((c.tc : Thread ReferenceIdeal.nD ReferenceIdeal.τ).loc ReferenceIdeal.main_arg3)
          = m' ((c.tc : Thread ReferenceIdeal.nD ReferenceIdeal.τ).loc ReferenceIdeal.main_arg3)) :=
  (θ_run ReferenceIdeal.defs _ _).mono (fun _ h c =>
    ⟨(h c).1.trans ((congrArg (fun a => shapeCast KernelIdeal.S4x384x9472 a
          KernelIdeal.Gen.shapeCasts_S1536x9472_S4x384x9472) (product_eq ρ (hs c))).trans (KernelRun.W5_v5 m ρ c).symm),
      (h c).2.1.trans ((congrArg (fun a => shapeCast KernelIdeal.S4x384x11008 a
          KernelIdeal.Gen.shapeCasts_S1536x11008_S4x384x11008) (codes_eq ρ (hs c))).trans (KernelRun.W5_v6 m ρ c).symm),
      (h c).2.2.1.trans ((congrArg (fun a => shapeCast KernelIdeal.S4x384x1 a
          KernelIdeal.Gen.shapeCasts_S1536x1_S4x384x1) (scales_eq ρ (hs c))).trans (KernelRun.W5_v7 m ρ c).symm),
      (h c).2.2.2⟩) (ReferenceIdeal.Value.run m' ρ')

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Launched with the same arguments, the kernel and the reference end with the same product, codes and scales. -/
theorem algebraic : algebraic_KernelIdeal_ReferenceIdeal (hKernelIdeal := Cert.KernelIdeal.Gen.facts)
    (hReferenceIdeal := Cert.ReferenceIdeal.Gen.facts) :=
  fun m ρ _ ρ' _ hs => ⟨fun c => KernelIdeal.Gen.W5 m ρ c (Proc.devRef .tc KernelIdeal.main_v5),
    fun c => KernelIdeal.Gen.W5 m ρ c (Proc.devRef .tc KernelIdeal.main_v6),
    fun c => KernelIdeal.Gen.W5 m ρ c (Proc.devRef .tc KernelIdeal.main_v7),
    KernelRun.run m ρ, Equation.reference_run ρ ρ' hs⟩

/-- The three programs terminate without fault and leave their arguments unchanged, every semaphore counter at zero;
    the ideal program is the kernel with no rewrite applied; and launched with the same arguments, the kernel and the
    reference end with the same three results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
